-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_propagates_alone [hPre_propagates_alone : Cert.Pre_propagates_alone.Facts] (m : (ℓ : Loc Cert.KernelIdeal.nD Cert.KernelIdeal.τ Cert.KernelIdeal.sig) → Buf (Elt Ideal) ℓ) : Prop :=
  ∀ c : Dev Cert.KernelIdeal.nD,
    (Cert.Pre_propagates_alone.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_propagates_alone.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_propagates_alone.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_propagates_alone.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_propagates_alone [hPre_propagates_alone : Cert.Pre_propagates_alone.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_propagates_alone.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_propagates_alone.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_propagates_alone.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_propagates_alone.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_propagates_alone [hKernelIdeal : Cert.KernelIdeal.Facts] [hPre_propagates_alone : Cert.Pre_propagates_alone.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_propagates_alone m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_propagates_alone [hReferenceIdeal : Cert.ReferenceIdeal.Facts] [hPre_propagates_alone : Cert.Pre_propagates_alone.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_propagates_alone m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_propagates_alone [hKernelIdeal : Cert.KernelIdeal.Facts] [hReferenceIdeal : Cert.ReferenceIdeal.Facts] [hPre_propagates_alone : Cert.Pre_propagates_alone.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_propagates_alone m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_propagates_alone : Cert.Pre_propagates_alone.Facts),
    quiescent_Kernel (hKernel := hKernel)
    ∧ quiescent_KernelIdeal (hKernelIdeal := hKernelIdeal)
    ∧ quiescent_KernelIdeal_pre_propagates_alone (hKernelIdeal := hKernelIdeal) (hPre_propagates_alone := hPre_propagates_alone)
    ∧ quiescent_ReferenceIdeal (hReferenceIdeal := hReferenceIdeal)
    ∧ quiescent_ReferenceIdeal_pre_propagates_alone (hReferenceIdeal := hReferenceIdeal) (hPre_propagates_alone := hPre_propagates_alone)
    ∧ preserves_Kernel_KernelIdeal
    ∧ algebraic_KernelIdeal_ReferenceIdeal_pre_propagates_alone (hKernelIdeal := hKernelIdeal) (hReferenceIdeal := hReferenceIdeal) (hPre_propagates_alone := hPre_propagates_alone)
-- ==== Pre_propagates_alone.lean ====
abbrev S8192x8192 : Shape := ⟨2, ![8192, 8192]⟩
abbrev S8192x128 : Shape := ⟨2, ![8192, 128]⟩
abbrev S128x128 : Shape := ⟨2, ![128, 128]⟩
abbrev S128 : Shape := ⟨1, ![128]⟩
abbrev S_ : Shape := ⟨0, ![]⟩

class Facts : Prop where
  bcast_S_S8192x8192 : S_.BroadcastsInDim S8192x8192 (![] : Fin 0 → Fin S8192x8192.rank)
  bcast_S_S8192x128 : S_.BroadcastsInDim S8192x128 (![] : Fin 0 → Fin S8192x128.rank)
  bcast_S_S128x128 : S_.BroadcastsInDim S128x128 (![] : Fin 0 → Fin S128x128.rank)

variable [Facts]

def fn {F : FTy → Type} [FloatOps F] (main_arg0 : FVec F S8192x8192 .f32) (main_arg1 : FVec F S8192x8192 .f32) (main_arg2 : FVec F S8192x128 .f32) (main_arg3 : FVec F S128x128 .f32) (main_arg4 : FVec F S128 .f32) (main_arg5 : FVec F S128x128 .f32) (main_arg6 : FVec F S128 .f32) : IVec S8192x8192 1 × IVec S8192x8192 1 × IVec S8192x128 1 × IVec S128x128 1 :=
  let main_cst : FVec F S_ .f32 := constant S_ .f32 0x00000000#32
  let main_v0 : FVec F S8192x8192 .f32 := broadcastInDim S8192x8192 ![] bcast_S_S8192x8192 main_cst
  let main_v1 : IVec S8192x8192 1 := cmpf .oeq main_arg1 main_v0
  let main_v2 : FVec F S8192x8192 .f32 := Host.absf main_arg0
  let main_cst_0 : FVec F S_ .f32 := constant S_ .f32 0x7F800000#32
  let main_v3 : FVec F S8192x8192 .f32 := broadcastInDim S8192x8192 ![] bcast_S_S8192x8192 main_cst_0
  let main_v4 : IVec S8192x8192 1 := cmpf .olt main_v2 main_v3
  let main_v5 : FVec F S8192x128 .f32 := Host.absf main_arg2
  let main_cst_1 : FVec F S_ .f32 := constant S_ .f32 0x7F800000#32
  let main_v6 : FVec F S8192x128 .f32 := broadcastInDim S8192x128 ![] bcast_S_S8192x128 main_cst_1
  let main_v7 : IVec S8192x128 1 := cmpf .olt main_v5 main_v6
  let main_v8 : FVec F S128x128 .f32 := Host.absf main_arg3
  let main_cst_2 : FVec F S_ .f32 := constant S_ .f32 0x7F800000#32
  let main_v9 : FVec F S128x128 .f32 := broadcastInDim S128x128 ![] bcast_S_S128x128 main_cst_2
  let main_v10 : IVec S128x128 1 := cmpf .olt main_v8 main_v9
  let main_v11 : FVec F S128x128 .f32 := Host.absf main_arg5
  let main_cst_3 : FVec F S_ .f32 := constant S_ .f32 0x7F800000#32
  let main_v12 : FVec F S128x128 .f32 := broadcastInDim S128x128 ![] bcast_S_S128x128 main_cst_3
  let main_v13 : IVec S128x128 1 := cmpf .olt main_v11 main_v12
  let main_v14 : IVec S128x128 1 := ori main_v10 main_v13
  (main_v1, main_v4, main_v7, main_v14)
-- ==== Kernel.lean ====
abbrev S8192x8192 : Shape := ⟨2, ![8192, 8192]⟩
abbrev S8192x128 : Shape := ⟨2, ![8192, 128]⟩
abbrev S128x128 : Shape := ⟨2, ![128, 128]⟩
abbrev S128 : Shape := ⟨1, ![128]⟩
abbrev S1x128 : Shape := ⟨2, ![1, 128]⟩
abbrev S512x8192 : Shape := ⟨2, ![512, 8192]⟩
abbrev S512x128 : Shape := ⟨2, ![512, 128]⟩

abbrev nBuf : Space → Nat
  | .hbm => 10
  | .vmem => 9
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S8192x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x128, .f32⟩
  | .hbm, ⟨8, _⟩ => ⟨S1x128, .f32⟩
  | .hbm, ⟨9, _⟩ => ⟨S8192x128, .f32⟩
  | .local _ .vmem, ⟨0, _⟩ => ⟨S512x8192, .f32⟩
  | .local _ .vmem, ⟨1, _⟩ => ⟨S512x8192, .f32⟩
  | .local _ .vmem, ⟨2, _⟩ => ⟨S8192x128, .f32⟩
  | .local _ .vmem, ⟨3, _⟩ => ⟨S128x128, .f32⟩
  | .local _ .vmem, ⟨4, _⟩ => ⟨S128x128, .f32⟩
  | .local _ .vmem, ⟨5, _⟩ => ⟨S1x128, .f32⟩
  | .local _ .vmem, ⟨6, _⟩ => ⟨S1x128, .f32⟩
  | .local _ .vmem, ⟨7, _⟩ => ⟨S512x128, .f32⟩
  | .local _ .vmem, ⟨8, _⟩ => ⟨S512x128, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S8192x8192 : Shape := ⟨2, ![8192, 8192]⟩
abbrev S8192x128 : Shape := ⟨2, ![8192, 128]⟩
abbrev S128x128 : Shape := ⟨2, ![128, 128]⟩
abbrev S128 : Shape := ⟨1, ![128]⟩
abbrev S1x128 : Shape := ⟨2, ![1, 128]⟩

abbrev nBuf : Space → Nat
  | .hbm => 21
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S8192x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S8192x8192, .f32⟩
  | .hbm, ⟨8, _⟩ => ⟨S8192x128, .f32⟩
  | .hbm, ⟨9, _⟩ => ⟨S128x128, .f32⟩
  | .hbm, ⟨10, _⟩ => ⟨S8192x128, .f32⟩
  | .hbm, ⟨11, _⟩ => ⟨S1x128, .f32⟩
  | .hbm, ⟨12, _⟩ => ⟨S8192x128, .f32⟩
  | .hbm, ⟨13, _⟩ => ⟨S8192x128, .f32⟩
  | .hbm, ⟨14, _⟩ => ⟨S8192x128, .f32⟩
  | .hbm, ⟨15, _⟩ => ⟨S128x128, .f32⟩
  | .hbm, ⟨16, _⟩ => ⟨S8192x128, .f32⟩
  | .hbm, ⟨17, _⟩ => ⟨S1x128, .f32⟩
  | .hbm, ⟨18, _⟩ => ⟨S8192x128, .f32⟩
  | .hbm, ⟨19, _⟩ => ⟨S8192x128, .f32⟩
  | .hbm, ⟨20, _⟩ => ⟨S8192x128, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]
-- ==== Proof.Value.Layer.lean ====
/-
  THE MATHEMATICS OF ONE OUTPUT ENTRY, on the extended reals and without any program.

  Row `l` of the propagation matrix meets the embeddings `e` (entry `k, j`), and the 128 sums it makes meet one row of
  each weight. The reference adds two such layers; the kernel adds the weights first and makes one. Multiplication
  distributes over addition on the reals but not on the extended reals: the two agree when the matrix and the embeddings are real and
  no entry is infinite in both weights. The biases are only added, and addition is associative and commutative everywhere,
  so they may be anything.
-/
module

public import Mathlib.Data.EReal.Operations
public import Mathlib.Algebra.BigOperators.Group.Finset.Basic
public import Mathlib.Algebra.BigOperators.Ring.Finset
public import Mathlib.Tactic.Ring

@[expose] public section

noncomputable section

namespace Cert.Layer

open scoped BigOperators

/-- An extended real that is a real number. -/
def IsReal (x : EReal) : Prop := ∃ r : ℝ, x = (r : EReal)

/-- What is neither infinity is a real number. -/
theorem real_of_ne {x : EReal} (ht : x ≠ ⊤) (hb : x ≠ ⊥) : IsReal x := ⟨x.toReal, (EReal.coe_toReal ht hb).symm⟩

/-- A finite sum of real numbers is a real number. -/
theorem real_sum {ι : Type} (s : Finset ι) (f : ι → EReal) (h : ∀ i, IsReal (f i)) : IsReal (∑ i ∈ s, f i) := by
  classical
  induction s using Finset.induction_on with
  | empty => exact ⟨0, by simp⟩
  | insert a s ha ih =>
    obtain ⟨x, hx⟩ := h a
    obtain ⟨y, hy⟩ := ih
    exact ⟨x + y, by rw [Finset.sum_insert ha, hx, hy, EReal.coe_add]⟩

/-- A product of two real numbers is a real number. -/
theorem real_mul {x y : EReal} (hx : IsReal x) (hy : IsReal y) : IsReal (x * y) := by
  obtain ⟨a, rfl⟩ := hx
  obtain ⟨b, rfl⟩ := hy
  exact ⟨a * b, (EReal.coe_mul a b).symm⟩

/-- Multiplication by a real number distributes over a sum with at least one real term, whatever the other is (by a
    negative number it does not distribute over `⊤ + ⊥`). -/
theorem mul_add_left_real {x a b : EReal} (hx : IsReal x) (ha : IsReal a) : x * (a + b) = x * a + x * b := by
  obtain ⟨r, rfl⟩ := hx
  rcases le_total 0 r with hr | hr
  · exact EReal.left_distrib_of_nonneg_of_ne_top (EReal.coe_nonneg.2 hr) (EReal.coe_ne_top r) a b
  · have hn : (0 : EReal) ≤ ((-r : ℝ) : EReal) := EReal.coe_nonneg.2 (neg_nonneg.2 hr)
    obtain ⟨p, hp⟩ := real_mul ⟨-r, rfl⟩ ha
    have e : ((r : ℝ) : EReal) = -((-r : ℝ) : EReal) := by rw [EReal.coe_neg, neg_neg]
    rw [e, EReal.neg_mul, EReal.left_distrib_of_nonneg_of_ne_top hn (EReal.coe_ne_top _) a b, hp,
      EReal.neg_add (.inl (EReal.coe_ne_bot p)) (.inl (EReal.coe_ne_top p)), EReal.neg_mul, EReal.neg_mul, hp]
    rfl

/-- The same, with either term the real one. -/
theorem mul_add_real {x a b : EReal} (hx : IsReal x) (h : IsReal a ∨ IsReal b) : x * (a + b) = x * a + x * b := by
  rcases h with ha | hb
  · exact mul_add_left_real hx ha
  · rw [add_comm a b, mul_add_left_real hx hb, add_comm]

variable {K J : Type} [Fintype K] [Fintype J]

/-- One entry of the propagated embeddings: a row of the propagation matrix against a column of the embeddings. -/
def propagated (l : K → EReal) (e : K → J → EReal) (j : J) : EReal := ∑ k, l k * e k j

/-- One output entry as the kernel makes it: ONE layer, under the sum of the two weights and the sum of the two biases. -/
def fused (l : K → EReal) (e : K → J → EReal) (w1 w2 : J → EReal) (b1 b2 : EReal) : EReal :=
  ∑ j, propagated l e j * (w1 j + w2 j) + (b1 + b2)

/-- One output entry as the reference makes it: a layer under the first weight and bias, of the matrix `l'` that has the
    self-connection added, plus a layer under the second. -/
def twoLayers (l' l : K → EReal) (e : K → J → EReal) (w1 w2 : J → EReal) (b1 b2 : EReal) : EReal :=
  (∑ j, propagated l' e j * w1 j + b1) + (∑ j, propagated l e j * w2 j + b2)

/-- THE TWO AGREE when there is no self-connection, the matrix and the embeddings are real, and no entry is infinite
    in both weights. -/
theorem twoLayers_eq_fused (l : K → EReal) (e : K → J → EReal) (w1 w2 : J → EReal) (b1 b2 : EReal)
    (hl : ∀ k, IsReal (l k)) (he : ∀ k j, IsReal (e k j)) (hw : ∀ j, IsReal (w1 j) ∨ IsReal (w2 j)) :
    twoLayers l l e w1 w2 b1 b2 = fused l e w1 w2 b1 b2 := by
  have hp : ∀ j, propagated l e j * (w1 j + w2 j) = propagated l e j * w1 j + propagated l e j * w2 j := fun j =>
    mul_add_real (real_sum _ _ fun k => real_mul (hl k) (he k j)) (hw j)
  unfold twoLayers fused
  rw [Finset.sum_congr rfl fun j _ => hp j, Finset.sum_add_distrib, add_add_add_comm]

end Cert.Layer

end

end
-- ==== Proof.Value.Pre.lean ====
/-
  THE PRECONDITION READ AT AN INDEX: where `propagates_alone` holds of the seven arguments, every entry of the
  self-connection is zero, every entry of the propagation matrix and of the embeddings is a real number (the predicate's
  `|x| < +∞`, at the extended reals), and every entry of one weight or the other is. Nothing is asked of the biases.
-/
module

public import proofs.«01_k».proof.Defs
public import proofs.«01_k».proof.Proof.Value.Layer
public import Idealize.ShloMosaic.Lib.Pointwise
public import Idealize.ShloMosaic.Lib.ValueIdxCore

@[expose] public section

noncomputable section

namespace Cert.Proof

open Idealize.ShloMosaic Idealize.SL.Sem
open Cert.Layer (IsReal)

/-- The predicate's stated facts: a scalar broadcasts to each of the three shapes. -/
theorem preFacts : Cert.Pre_propagates_alone.Facts where
  bcast_S_S8192x8192 := by decide
  bcast_S_S8192x128 := by decide
  bcast_S_S128x128 := by decide

/-- A one-bit word made from a decision is set only where the decision holds. -/
theorem of_bit {p : Prop} [Decidable p] (h : BitVec.ofBool (decide p) = 1#1) : p := by
  by_contra hp
  simp [hp] at h

/-- Two bits whose disjunction is set: one of them is. -/
theorem or_of_bit {a b : BitVec 1} (h : IntOp.ori a b = 1#1) : a = 1#1 ∨ b = 1#1 := by
  revert h
  revert a b
  decide

/-- The comparison "equal to zero", set, says the number is zero. -/
theorem zero_of_bit (x : EReal)
    (h : FloatOps.cmpf (F := Ideal) (φ := .f32) .oeq x (FloatOps.ofBits (F := Ideal) .f32 0x00000000#32) = 1#1) : x = 0 := by
  have hz : Ideal.ofBits .f32 0x00000000#32 = 0 := by simp [Ideal.ofBits, Ideal.ieee]
  have h' : Ideal.cmp .oeq x (Ideal.ofBits .f32 0x00000000#32) = 1#1 := h
  rw [hz] at h'
  exact of_bit h'

/-- The comparison "absolute value below +∞", set, says the number is real. -/
theorem real_of_bit (x : EReal)
    (h : FloatOps.cmpf (F := Ideal) (φ := .f32) .olt (FloatOps.hostAbsf (F := Ideal) (φ := .f32) x)
      (FloatOps.ofBits (F := Ideal) .f32 0x7F800000#32) = 1#1) : IsReal x := by
  have ht : Ideal.ofBits .f32 0x7F800000#32 = ⊤ := by simp [Ideal.ofBits, Ideal.ieee]
  have h' : Ideal.cmp .olt (max x (-x)) (Ideal.ofBits .f32 0x7F800000#32) = 1#1 := h
  rw [ht] at h'
  have hlt : max x (-x) < ⊤ := of_bit h'
  rw [max_lt_iff] at hlt
  refine Cert.Layer.real_of_ne hlt.1.ne fun hb => ?_
  rw [hb] at hlt
  simp at hlt

variable [hPre : Cert.Pre_propagates_alone.Facts]
variable {L I : FVec Ideal ⟨2, ![8192, 8192]⟩ .f32} {E : FVec Ideal ⟨2, ![8192, 128]⟩ .f32}
  {W1 W2 : FVec Ideal ⟨2, ![128, 128]⟩ .f32} {b1 b2 : FVec Ideal ⟨1, ![128]⟩ .f32}

/-- The first component: the self-connection is zero everywhere. -/
theorem self_zero (h : (Cert.Pre_propagates_alone.fn (F := Ideal) L I E W1 b1 W2 b2).1 = fun _ => 1#1) (i) : I i = 0 :=
  zero_of_bit (I i) (congrFun h i)

/-- The second: the propagation matrix is real everywhere. -/
theorem matrix_real (h : (Cert.Pre_propagates_alone.fn (F := Ideal) L I E W1 b1 W2 b2).2.1 = fun _ => 1#1) (i) : IsReal (L i) :=
  real_of_bit (L i) (congrFun h i)

/-- The third: so are the embeddings. -/
theorem embeddings_real (h : (Cert.Pre_propagates_alone.fn (F := Ideal) L I E W1 b1 W2 b2).2.2.1 = fun _ => 1#1) (i) :
    IsReal (E i) :=
  real_of_bit (E i) (congrFun h i)

/-- The fourth: at every entry one weight or the other is real. -/
theorem weights_real (h : (Cert.Pre_propagates_alone.fn (F := Ideal) L I E W1 b1 W2 b2).2.2.2 = fun _ => 1#1) (i) :
    IsReal (W1 i) ∨ IsReal (W2 i) :=
  (or_of_bit (congrFun h i)).imp (real_of_bit (W1 i)) (real_of_bit (W2 i))

end Cert.Proof

end
-- ==== Proof.Value.Block.lean ====
/-
  WHAT THE KERNEL'S BODY COMPUTES, READ AT AN INDEX: from a block of rows of the propagation matrix, the whole embeddings,
  the two weights and the two biases, entry `(r, d)` of the block it stores is `Cert.Layer.fused` of row `r` of the block,
  the embeddings, row `d` of each weight and entry `d` of each bias.
-/
module

public import proofs.«01_k».proof.Proof.Gen.KernelIdeal.Skeleton
public import proofs.«01_k».proof.Proof.Value.Layer
public import Idealize.ShloMosaic.Lib.Pointwise

@[expose] public section

noncomputable section

namespace Cert.Proof

open Idealize.ShloMosaic Cert.KernelIdeal Cert.KernelIdeal.Gen

/-- The stored block at `(r, d)`. -/
theorem payload_apply (x : Vec Ideal S512x8192 .f32) (e : Vec Ideal S8192x128 .f32) (w1 w2 : Vec Ideal S128x128 .f32)
    (b1 b2 : Vec Ideal S1x128 .f32) (r : Fin 512) (d : Fin 128) :
    k0_pay1 (F := Ideal) x e w1 w2 b1 b2 (ix2 r d)
      = Cert.Layer.fused (fun k : Fin 8192 => x (ix2 r k)) (fun k (j : Fin 128) => e (ix2 k j)) (fun j => w1 (ix2 d j))
          (fun j => w2 (ix2 d j)) (b1 (ix2 0 d)) (b2 (ix2 0 d)) := by
  unfold Cert.Layer.fused Cert.Layer.propagated
  pointwise [k0_pay1]

end Cert.Proof

end
-- ==== Proof.Value.Array.lean ====
/-
  THE KERNEL'S RESULT ARRAY AFTER THE RUN. The 16 grid points stage 512 rows of the propagation matrix each, and the
  embeddings, the weights and the biases whole (the biases as one row, reshaped before the grid starts); point `t` writes
  rows `512·t … 512·t + 511` of the result. So what each writes is its block of ONE function of the arguments, the blocks
  tile the array, and the array ends holding that function.
-/
module

public import proofs.«01_k».proof.Proof.Gen.KernelIdeal.Value
public import proofs.«01_k».proof.Proof.Value.Block
public import Idealize.ShloMosaic.Lib.Claim

@[expose] public section

noncomputable section

namespace Cert.Proof

open Idealize.ShloMosaic Idealize.ShloMosaic.TcCoe Idealize.SL.Sem Cert.KernelIdeal Cert.KernelIdeal.Gen
open Idealize.ShloMosaic.Pipeline (Dat)

/-- The result as one function of the seven arguments (the self-connection is not read): entry `(n, d)` is
    `Cert.Layer.fused` of row `n` of the matrix, the embeddings, row `d` of each weight, entry `d` of each bias. -/
def result (L : FVec Ideal S8192x8192 .f32) (E : FVec Ideal S8192x128 .f32) (W1 W2 : FVec Ideal S128x128 .f32)
    (b1 b2 : FVec Ideal S128 .f32) : FVec Ideal S8192x128 .f32 := fun i =>
  Cert.Layer.fused (fun k : Fin 8192 => L (ix2 (i 0) k)) (fun k (j : Fin 128) => E (ix2 k j)) (fun j => W1 (ix2 (i 1) j))
    (fun j => W2 (ix2 (i 1) j)) (b1 (ix1 (i 1))) (b2 (ix1 (i 1)))

variable (m : (ℓ : Loc nD τ sig) → Buf (Elt Ideal) ℓ) (c : Dev nD)

/-- The result of device `c`'s arguments. -/
abbrev resultOf : FVec Ideal S8192x128 .f32 :=
  result (m ((c : Thread nD τ).loc main_arg0)) (m ((c : Thread nD τ).loc main_arg2)) (m ((c : Thread nD τ).loc main_arg3))
    (m ((c : Thread nD τ).loc main_arg5)) (m ((c : Thread nD τ).loc main_arg4)) (m ((c : Thread nD τ).loc main_arg6))

/-- Where each window's block starts at each point: the matrix and the result move down by one block a point, the rest
    stay (decided over the 16 points). -/
theorem starts : ∀ t : Fin grid0.N, win0_0.index t 0 = t.val ∧ win0_0.index t 1 = 0 ∧ win0_1.index t 0 = 0
    ∧ win0_1.index t 1 = 0 ∧ win0_2.index t 0 = 0 ∧ win0_2.index t 1 = 0 ∧ win0_3.index t 0 = 0 ∧ win0_3.index t 1 = 0
    ∧ win0_4.index t 0 = 0 ∧ win0_4.index t 1 = 0 ∧ win0_5.index t 0 = 0 ∧ win0_5.index t 1 = 0
    ∧ win0_6.index t 0 = t.val ∧ win0_6.index t 1 = 0 := by decide +kernel

/-- A grid point's number is below 16. -/
theorem point_lt (t : Fin grid0.N) : t.val < 16 := t.isLt

/-- Row `r` of point `t`'s block, as a row of the whole array. -/
def rowOf (t : Fin grid0.N) (r : Fin 512) : Fin 8192 :=
  ⟨t.val * 512 + r.val, by have := point_lt t; have := r.isLt; omega⟩

/-- The matrix's block at point `t`. -/
theorem block0 (t : Fin cfg0.N) (r : Fin 512) (k : Fin 8192) :
    iblk m c 0 t (ix2 r k) = m ((c : Thread nD τ).loc main_arg0) (ix2 (rowOf t r) k) := by
  have h := starts t
  rw [← V_main_arg0 m c]
  show V m c main_arg0 ((win0_0.rect t).emb (ix2 r k)) = _
  refine congrArg _ (Shape.idx_ext₂ ?_ ?_)
  · exact (win0_0.rect_emb_val t (ix2 r k) 0).trans (congrArg (· * 512 + r.val) h.1)
  · exact win0_0.rect_emb_val_of_index_zero t 1 h.2.1 (ix2 r k)

/-- The embeddings' block, at every point the whole array. -/
theorem block1 (t : Fin cfg0.N) (k : Fin 8192) (j : Fin 128) :
    iblk m c 1 t (ix2 k j) = m ((c : Thread nD τ).loc main_arg2) (ix2 k j) := by
  have h := starts t
  rw [← V_main_arg2 m c]
  show V m c main_arg2 ((win0_1.rect t).emb (ix2 k j)) = _
  exact congrArg _ (Shape.idx_ext₂ (win0_1.rect_emb_val_of_index_zero t 0 h.2.2.1 (ix2 k j))
    (win0_1.rect_emb_val_of_index_zero t 1 h.2.2.2.1 (ix2 k j)))

/-- The first weight's. -/
theorem block2 (t : Fin cfg0.N) (d j : Fin 128) :
    iblk m c 2 t (ix2 d j) = m ((c : Thread nD τ).loc main_arg3) (ix2 d j) := by
  have h := starts t
  rw [← V_main_arg3 m c]
  show V m c main_arg3 ((win0_2.rect t).emb (ix2 d j)) = _
  exact congrArg _ (Shape.idx_ext₂ (win0_2.rect_emb_val_of_index_zero t 0 h.2.2.2.2.1 (ix2 d j))
    (win0_2.rect_emb_val_of_index_zero t 1 h.2.2.2.2.2.1 (ix2 d j)))

/-- The second weight's. -/
theorem block3 (t : Fin cfg0.N) (d j : Fin 128) :
    iblk m c 3 t (ix2 d j) = m ((c : Thread nD τ).loc main_arg5) (ix2 d j) := by
  have h := starts t
  rw [← V_main_arg5 m c]
  show V m c main_arg5 ((win0_3.rect t).emb (ix2 d j)) = _
  exact congrArg _ (Shape.idx_ext₂ (win0_3.rect_emb_val_of_index_zero t 0 h.2.2.2.2.2.2.1 (ix2 d j))
    (win0_3.rect_emb_val_of_index_zero t 1 h.2.2.2.2.2.2.2.1 (ix2 d j)))

/-- The first bias as the grid finds it: one row. -/
theorem row_bias1 (d : Fin 128) : V m c main_v0 (ix2 0 d) = m ((c : Thread nD τ).loc main_arg4) (ix1 d) := by
  entry_read
  pointwise

/-- The second bias likewise. -/
theorem row_bias2 (d : Fin 128) : V m c main_v1 (ix2 0 d) = m ((c : Thread nD τ).loc main_arg6) (ix1 d) := by
  entry_read
  pointwise

/-- The first bias's block, at every point the whole row. -/
theorem block4 (t : Fin cfg0.N) (d : Fin 128) :
    iblk m c 4 t (ix2 0 d) = m ((c : Thread nD τ).loc main_arg4) (ix1 d) := by
  have h := starts t
  rw [← row_bias1 m c d]
  show V m c main_v0 ((win0_4.rect t).emb (ix2 0 d)) = _
  exact congrArg _ (Shape.idx_ext₂ (win0_4.rect_emb_val_of_index_zero t 0 h.2.2.2.2.2.2.2.2.1 (ix2 0 d))
    (win0_4.rect_emb_val_of_index_zero t 1 h.2.2.2.2.2.2.2.2.2.1 (ix2 0 d)))

/-- The second bias's. -/
theorem block5 (t : Fin cfg0.N) (d : Fin 128) :
    iblk m c 5 t (ix2 0 d) = m ((c : Thread nD τ).loc main_arg6) (ix1 d) := by
  have h := starts t
  rw [← row_bias2 m c d]
  show V m c main_v1 ((win0_5.rect t).emb (ix2 0 d)) = _
  exact congrArg _ (Shape.idx_ext₂ (win0_5.rect_emb_val_of_index_zero t 0 h.2.2.2.2.2.2.2.2.2.2.1 (ix2 0 d))
    (win0_5.rect_emb_val_of_index_zero t 1 h.2.2.2.2.2.2.2.2.2.2.2.1 (ix2 0 d)))

/-- The result's block at point `t`: the same rows. -/
theorem emb6 (t : Fin cfg0.N) (r : Fin 512) (d : Fin 128) : (win0_6.rect t).emb (ix2 r d) = ix2 (rowOf t r) d := by
  have h := (starts t).2.2.2.2.2.2.2.2.2.2.2.2
  refine Shape.idx_ext₂ ?_ ?_
  · exact (win0_6.rect_emb_val t (ix2 r d) 0).trans (congrArg (· * 512 + r.val) h.1)
  · exact win0_6.rect_emb_val_of_index_zero t 1 h.2 (ix2 r d)

/-- Two zero offsets, however they are spelt. -/
theorem zeros : (![0, 0] : Fin 2 → Nat) = fun _ => 0 := funext fun a => by fin_cases a <;> rfl

/-- The body's output buffer is the payload of its input blocks. -/
theorem out_eq (x : Vec Ideal S512x8192 .f32) (e : Vec Ideal S8192x128 .f32) (w1 w2 : Vec Ideal S128x128 .f32)
    (b1 b2 : Vec Ideal S1x128 .f32) : out0_6 x e w1 w2 b1 b2 = k0_pay1 x e w1 w2 b1 b2 := by
  unfold out0_6
  rw [View.canon_unit_zero zeros, View.ld_unit_zero (S := S512x8192) zeros, View.ld_unit_zero (S := S8192x128) zeros,
    View.ld_unit_zero (S := S128x128) zeros, View.ld_unit_zero (S := S128x128) zeros, View.ld_unit_zero (S := S1x128) zeros,
    View.ld_unit_zero (S := S1x128) zeros]

/-- WHAT POINT `t` WRITES BACK is its block of the result. -/
theorem flushed_eq (t : Fin cfg0.N) :
    (dats m 0 c).flushed 6 t = ((cfg0.win 6).blk t).view.read (Elt Ideal) (resultOf m c) := by
  rw [Value.flushed6, out_eq]
  funext y
  show k0_pay1 (F := Ideal) (iblk m c 0 t) (iblk m c 1 t) (iblk m c 2 t) (iblk m c 3 t) (iblk m c 4 t) (iblk m c 5 t) y
    = resultOf m c ((win0_6.rect t).emb y)
  obtain ⟨r, d, rfl⟩ : ∃ (r : Fin 512) (d : Fin 128), y = ix2 r d := ⟨y 0, y 1, eq_ix2 y⟩
  rw [emb6, payload_apply]
  show _ = Cert.Layer.fused _ _ _ _ _ _
  simp only [block0, block1, block2, block3, block4, block5, ix2_0, ix2_1]

/-- THE RESULT'S BLOCKS TILE ITS ARRAY: row `n` is in the block of point `n / 512`. -/
theorem cover (i : S8192x128.Idx) :
    ∃ t : Fin cfg0.N, (cfg0.win 6).flush t = true ∧ i ∈ ((cfg0.win 6).blk t).view.set := by
  obtain ⟨n, d, rfl⟩ : ∃ (n : Fin 8192) (d : Fin 128), i = ix2 n d := ⟨i 0, i 1, eq_ix2 i⟩
  have hn := n.isLt
  have ht : n.val / 512 < grid0.N := (by omega : n.val / 512 < 16)
  refine ⟨⟨n.val / 512, ht⟩, flush0_6 _, ?_⟩
  have hrow : rowOf ⟨n.val / 512, ht⟩ ⟨n.val % 512, by omega⟩ = n := Fin.ext (by show n.val / 512 * 512 + n.val % 512 = n.val; omega)
  have he := emb6 ⟨n.val / 512, ht⟩ ⟨n.val % 512, by omega⟩ d
  rw [hrow] at he
  rw [← he]
  exact ((cfg0.win 6).blk ⟨n.val / 512, ht⟩).view.emb_mem_set _

/-- THE RESULT ARRAY AFTER THE RUN is the result of the arguments. -/
theorem final : (dats m 0 c).arrAt 6 cfg0.N = resultOf m c :=
  (dats m 0 c).arrAt_eq_of_cover 6 (resultOf m c) (fun t _ => flushed_eq m c t) cover

end Cert.Proof

end
-- ==== Proof.Value.Reference.lean ====
/-
  WHAT THE REFERENCE COMPUTES, READ AT AN INDEX: entry `(n, d)` of its result is `Cert.Layer.twoLayers` of row `n` of the
  propagation matrix with the self-connection added, row `n` of the propagation matrix, the embeddings, row `d` of each
  weight (the reference transposes them) and entry `d` of each bias.
-/
module

public import proofs.«01_k».proof.Proof.Gen.ReferenceIdeal.Read
public import proofs.«01_k».proof.Proof.Value.Layer
public import Idealize.ShloMosaic.Lib.Pointwise

@[expose] public section

noncomputable section

namespace Cert.Proof

open Idealize.ShloMosaic Cert.ReferenceIdeal Cert.ReferenceIdeal.Read

variable (L I : FVec Ideal S8192x8192 .f32) (E : FVec Ideal S8192x128 .f32) (W1 W2 : FVec Ideal S128x128 .f32)
  (b1 b2 : FVec Ideal S128 .f32)

/-- The reference's result at `(n, d)`. -/
theorem reference_apply (n : Fin 8192) (d : Fin 128) :
    val_main_v13 (F := Ideal) L I E W1 b1 W2 b2 (ix2 n d)
      = Cert.Layer.twoLayers (fun k : Fin 8192 => L (ix2 n k) + I (ix2 n k)) (fun k => L (ix2 n k))
          (fun k (j : Fin 128) => E (ix2 k j)) (fun j => W1 (ix2 d j)) (fun j => W2 (ix2 d j)) (b1 (ix1 d)) (b2 (ix1 d)) := by
  unfold Cert.Layer.twoLayers Cert.Layer.propagated
  pointwise [val_main_v13, val_main_v12, val_main_v11, val_main_v10, val_main_v9, val_main_v8, val_main_v7, val_main_v6,
    val_main_v5, val_main_v4, val_main_v3, val_main_v2, val_main_v1, val_main_v0]

end Cert.Proof

end
-- ==== Proof.lean ====
/-
  The proof of `Cert.Claim` (Defs.lean) for the `v04` kernel of a graph propagation layer against its plain reference.

  * the frames of the kernel, of its idealization and of the reference: each program runs, leaves its seven arguments as
    they were and every semaphore counter at zero. The kernel's are generated; the reference's is its generated run, and a
    program of host operations declares no semaphore. Two of them are also stated under the precondition, which they do
    not need.
  * preserves: the idealization is the kernel's own text.
  * algebraic: over the extended reals the two programs end with equal results, where `propagates_alone` holds. The
    kernel's result array is `resultOf` of its arguments (Proof/Value/Array.lean), the reference's is read at an index
    (Proof/Value/Reference.lean), and the two are one number by Proof/Value/Layer.lean.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Value.Pre
public import proofs.«01_k».proof.Proof.Value.Array
public import proofs.«01_k».proof.Proof.Value.Reference
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

/-- The kernel's frame. -/
theorem frame_p : Cert.quiescent_Kernel := fun m ρ _ => Cert.Kernel.Gen.frame m ρ

/-- The idealization's. -/
theorem frame_pi : Cert.quiescent_KernelIdeal := fun m ρ _ => Cert.KernelIdeal.Gen.frame m ρ

/-- The reference's: its run, of which the arguments' part is kept; it declares no semaphore. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

section Pre
variable [hPre : Cert.Pre_propagates_alone.Facts]

/-- The idealization's frame where the precondition holds: it holds everywhere. -/
theorem frame_pi_pre : Cert.quiescent_KernelIdeal_pre_propagates_alone := fun m ρ _ => frame_pi m ρ trivial

/-- The reference's likewise. -/
theorem frame_ri_pre : Cert.quiescent_ReferenceIdeal_pre_propagates_alone := fun m ρ _ => frame_ri m ρ trivial

/-- THE REFERENCE'S RESULT IS THE KERNEL'S, as functions of the same seven arguments, where the precondition holds. -/
theorem reference_eq_result (L I : FVec Ideal Cert.KernelIdeal.S8192x8192 .f32) (E : FVec Ideal Cert.KernelIdeal.S8192x128 .f32)
    (W1 W2 : FVec Ideal Cert.KernelIdeal.S128x128 .f32) (b1 b2 : FVec Ideal Cert.KernelIdeal.S128 .f32)
    (h : (Cert.Pre_propagates_alone.fn (F := Ideal) L I E W1 b1 W2 b2).1 = (fun _ => 1#1)
      ∧ (Cert.Pre_propagates_alone.fn (F := Ideal) L I E W1 b1 W2 b2).2.1 = (fun _ => 1#1)
      ∧ (Cert.Pre_propagates_alone.fn (F := Ideal) L I E W1 b1 W2 b2).2.2.1 = (fun _ => 1#1)
      ∧ (Cert.Pre_propagates_alone.fn (F := Ideal) L I E W1 b1 W2 b2).2.2.2 = (fun _ => 1#1)) :
    Cert.ReferenceIdeal.Read.val_main_v13 (F := Ideal) L I E W1 b1 W2 b2 = result L E W1 W2 b1 b2 := by
  obtain ⟨hI, hL, hE, hW⟩ := h
  funext i
  obtain ⟨n, d, rfl⟩ : ∃ (n : Fin 8192) (d : Fin 128), i = ix2 n d := ⟨i 0, i 1, eq_ix2 i⟩
  rw [reference_apply]
  simp only [self_zero hI, add_zero]
  exact Cert.Layer.twoLayers_eq_fused _ _ _ _ _ _ (fun _ => matrix_real hL _) (fun _ _ => embeddings_real hE _)
    (fun _ => weights_real hW _)

/-- The idealized kernel and the reference, from memories agreeing on the arguments, end with equal results. -/
theorem algebraic : Cert.algebraic_KernelIdeal_ReferenceIdeal_pre_propagates_alone := by
  intro m g m' g' hpre hagree
  refine ⟨fun c => resultOf m c, ?_, ?_⟩
  · exact (θ_run Cert.KernelIdeal.defs _ _).mono (fun r h c => ⟨(h c).1.trans (final m c), (h c).2⟩)
      (Cert.KernelIdeal.Value.run_blocks m g)
  · refine (θ_run Cert.ReferenceIdeal.defs _ _).mono (fun r h c => ⟨(h c).1.trans ?_, (h c).2⟩)
      (Cert.ReferenceIdeal.Value.run (F := Ideal) m' g')
    obtain ⟨e0, e1, e2, e3, e4, e5, e6⟩ := hagree c
    refine (Cert.ReferenceIdeal.Read.val_main_v13_eq _ _ _ _ _ _ _).trans ?_
    rw [e0, e1, e2, e3, e4, e5, e6]
    exact reference_eq_result _ _ _ _ _ _ _ (hpre c)

end Pre

/-- Every claim. -/
theorem claim : Cert.Claim :=
  ⟨Cert.Kernel.Gen.facts, Cert.KernelIdeal.Gen.facts, Cert.ReferenceIdeal.Gen.facts, preFacts, frame_p, frame_pi,
    frame_pi_pre (hPre := preFacts), frame_ri, frame_ri_pre (hPre := preFacts), trivial, algebraic (hPre := preFacts)⟩

end Cert.Proof

end
